-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096x4096 : Shape := ⟨2, ![4096, 4096]⟩
abbrev S8192x256 : Shape := ⟨2, ![8192, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S256x256, .f32⟩
  | .local _ .vmem, ⟨4, _⟩ => ⟨S8192x256, .f32⟩
  | .local _ .vmem, ⟨5, _⟩ => ⟨S8192x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  ![arg0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x4096 : Shape := ⟨2, ![8192, 4096]⟩
abbrev S4096x4096 : Shape := ⟨2, ![4096, 4096]⟩
abbrev S64x64x64x64 : Shape := ⟨4, ![64, 64, 64, 64]⟩
abbrev S64 : Shape := ⟨1, ![64]⟩
abbrev S_ : Shape := ⟨0, ![]⟩
abbrev S64x1 : Shape := ⟨2, ![64, 1]⟩
abbrev S64x2 : Shape := ⟨2, ![64, 2]⟩
abbrev S64x64x64 : Shape := ⟨3, ![64, 64, 64]⟩
abbrev S8192x64x64 : Shape := ⟨3, ![8192, 64, 64]⟩
abbrev S64x64x8192 : Shape := ⟨3, ![64, 64, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S64x64x64x64, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S64x1, .i32⟩
  | .hbm, ⟨20, _⟩ => ⟨S64x2, .i32⟩
  | .hbm, ⟨21, _⟩ => ⟨S64x64x64, .f32⟩
  | .hbm, ⟨22, _⟩ => ⟨S8192x64x64, .f32⟩
  | .hbm, ⟨23, _⟩ => ⟨S64x64x8192, .f32⟩
  | .hbm, ⟨24, _⟩ => ⟨S8192x64x64, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.GroupSum.lean ====
/- The mathematics of a block-diagonal linear layer, with no program in sight: 4096 columns in 64 groups of 64; entry `(b, n)` of the
   result is the product of row `b` of `x` with row `n` of `w`, both restricted to the columns of `n`'s own group. And the one fact
   about finite sums the kernel rests on: a sum over 256 columns whose factors outside one group of 64 are zeroed is the sum over
   that group. -/
module

public import Idealize.ShloMosaic.Lib.ValueIdx
public import Idealize.ShloMosaic.PureOps.Ideal

@[expose] public section

noncomputable section

namespace Cert.Grouped

open Idealize.ShloMosaic Idealize.ShloMosaic.ValueIdx
open scoped BigOperators

/-- Column `i` of the group that column `n` of 4096 belongs to. -/
def member (n : Fin 4096) (i : Fin 64) : Fin 4096 := ⟨64 * (n.val / 64) + i.val, by omega⟩

/-- Column `i` of the group that column `n` of a 256-wide tile belongs to. -/
def tileMember (n : Fin 256) (i : Fin 64) : Fin 256 := ⟨64 * (n.val / 64) + i.val, by omega⟩

/-- The layer's result: at `(b, n)`, the sum over the 64 columns of `n`'s group of `x` at `(b, column)` times `w` at
    `(n, column)`. -/
def layer (x : (⟨2, ![8192, 4096]⟩ : Shape).Idx → EReal) (w : (⟨2, ![4096, 4096]⟩ : Shape).Idx → EReal) :
    (⟨2, ![8192, 4096]⟩ : Shape).Idx → EReal :=
  fun y => ∑ i : Fin 64, x (ix2 (y 0 : Fin 8192) (member (y 1) i)) * w (ix2 (y 1 : Fin 4096) (member (y 1) i))

/-- The layer's result at an index spelt by its coordinates. -/
theorem layer_apply (x : (⟨2, ![8192, 4096]⟩ : Shape).Idx → EReal) (w : (⟨2, ![4096, 4096]⟩ : Shape).Idx → EReal)
    (b : Fin 8192) (n : Fin 4096) :
    layer x w (ix2 b n) = ∑ i : Fin 64, x (ix2 b (member n i)) * w (ix2 n (member n i)) := rfl

/-- Of a product sum over a 256-wide tile whose right factor is kept inside the group of `n` and zero outside it, only that
    group's 64 terms are left: zero times an extended real is zero. -/
theorem sum_kept (f g : Fin 256 → EReal) (n : Fin 256) :
    (∑ q : Fin 256, f q * (if n.val / 64 = q.val / 64 then g q else 0))
      = ∑ i : Fin 64, f (tileMember n i) * g (tileMember n i) := by
  simp only [mul_ite, mul_zero]
  rw [← Finset.sum_filter]
  refine Finset.sum_bij' (fun q _ => (⟨q.val % 64, Nat.mod_lt _ (by decide)⟩ : Fin 64)) (fun i _ => tileMember n i)
    (fun _ _ => Finset.mem_univ _) (fun i _ => ?_) (fun q hq => ?_) (fun i _ => ?_) (fun q hq => ?_)
  · have := i.isLt
    simp only [Finset.mem_filter, Finset.mem_univ, true_and, tileMember]
    omega
  · have h := (Finset.mem_filter.mp hq).2
    apply Fin.ext
    simp only [tileMember]
    omega
  · have := i.isLt
    apply Fin.ext
    simp only [tileMember]
    omega
  · have h := (Finset.mem_filter.mp hq).2
    have e : tileMember n ⟨q.val % 64, Nat.mod_lt _ (by decide)⟩ = q := by
      apply Fin.ext
      simp only [tileMember]
      omega
    rw [e]

end Cert.Grouped

end
-- ==== Proof.Mask.lean ====
/- The kernel's mask. The body numbers the rows and the columns of a 256 by 256 tile, divides both by 64 rounding down (spelt with a
   truncating division, two sign comparisons and a remainder), and compares. Here: each of the two quotients is the index's quotient by
   64 as a word, so the comparison holds exactly where row and column lie in the same group. -/
module

public import proofs.«01_k».proof.Proof.Gen.KernelIdeal.Skeleton
public import Idealize.ShloMosaic.Lib.ValueIdx

@[expose] public section

noncomputable section

namespace Cert.KernelIdeal.Mask

open Cert.KernelIdeal Cert.KernelIdeal.Gen Idealize.ShloMosaic Idealize.ShloMosaic.ValueIdx

/-- The column's group number as the body computes it: the truncated quotient, less one where signs differ and a remainder is
    left (nowhere on this tile). -/
def colGroup : IVec S256x256 32 :=
  select (andi k0_pay4 (cmpi .ne k0_pay5 (broadcast S256x256 0#32)))
    (subi k0_pay3 (broadcast S256x256 1#32)) k0_pay3

/-- The row's group number at `(r, c)` is `r / 64`. -/
theorem row_group (r c : Fin 256) : k0_pay2 (ix2 r c) = BitVec.ofNat 32 (r.val / 64) := by
  have first : ∀ r : Fin 256, k0_pay2 (ix2 r (0 : Fin 256)) = BitVec.ofNat 32 (r.val / 64) := by decide +kernel
  exact first r

/-- The column's group number at `(r, c)` is `c / 64`. -/
theorem col_group (r c : Fin 256) : colGroup (ix2 r c) = BitVec.ofNat 32 (c.val / 64) := by
  have first : ∀ c : Fin 256, colGroup (ix2 (0 : Fin 256) c) = BitVec.ofNat 32 (c.val / 64) := by decide +kernel
  exact first c

/-- Choosing by the mask at `(r, c)`: the first value where row and column lie in the same group of 64, else the second. -/
theorem select_mask {α : Type} (u v : S256x256.Idx → α) (r c : Fin 256) :
    select (cmpi .eq k0_pay2 colGroup) u v (ix2 r c) = if r.val / 64 = c.val / 64 then u (ix2 r c) else v (ix2 r c) := by
  have words : ∀ a b : Fin 4, (IntOp.cmpi .eq (BitVec.ofNat 32 a.val) (BitVec.ofNat 32 b.val) = 1#1) ↔ a.val = b.val := by decide
  have bit : (IntOp.cmpi .eq (k0_pay2 (ix2 r c)) (colGroup (ix2 r c)) = 1#1) ↔ r.val / 64 = c.val / 64 := by
    rw [row_group, col_group]
    exact words ⟨r.val / 64, by omega⟩ ⟨c.val / 64, by omega⟩
  show (if IntOp.cmpi .eq (k0_pay2 (ix2 r c)) (colGroup (ix2 r c)) = 1#1 then u (ix2 r c) else v (ix2 r c)) = _
  exact if_congr bit rfl rfl

end Cert.KernelIdeal.Mask

end
-- ==== Proof.Block.lean ====
/- What one grid point computes: of a block `x` of 8192 rows by 256 columns and the diagonal 256 by 256 tile `w` of the weights, the
   result's block at `(a, b)` is the sum over the 64 columns of `b`'s group of `x` at `(a, column)` times `w` at `(b, column)`. -/
module

public import proofs.«01_k».proof.Proof.GroupSum
public import proofs.«01_k».proof.Proof.Mask
public import Idealize.ShloMosaic.Lib.MatmulPlain

@[expose] public section

noncomputable section

namespace Cert.KernelIdeal.Block

open Cert.KernelIdeal Cert.KernelIdeal.Gen Idealize.ShloMosaic Idealize.ShloMosaic.ValueIdx
open scoped BigOperators

/-- The body's result for a weight tile `w` and a block `x`, as the body passes them on. -/
def product (w : FVec Ideal S256x256 .f32) (x : FVec Ideal S8192x256 .f32) : FVec Ideal S8192x256 .f32 :=
  k0_pay1 w k0_pay2 k0_pay3 k0_pay4 k0_pay5 x

/-- The body multiplies the block by the masked tile, its rows against the tile's rows, onto zero. -/
theorem product_eq (w : FVec Ideal S256x256 .f32) (x : FVec Ideal S8192x256 .f32) :
    product w x = FloatOps.matmul (DotDims.transposedRhs 8192 256 256) none x
      (select (cmpi .eq k0_pay2 Mask.colGroup) w (broadcast S256x256 (Scalar.ofBits .f32 0x00000000#32)))
      (constant S8192x256 .f32 0x00000000#32) := rfl

/-- Entry `(a, b)` of the body's result: the product sum over the group of `b`. -/
theorem product_apply (w : FVec Ideal S256x256 .f32) (x : FVec Ideal S8192x256 .f32) (a : Fin 8192) (b : Fin 256) :
    product w x (ix2 a b)
      = ∑ i : Fin 64, (x (ix2 a (Grouped.tileMember b i)) * w (ix2 b (Grouped.tileMember b i)) : EReal) := by
  have zero : Ideal.ofBits .f32 0x00000000#32 = 0 := by simp [Ideal.ofBits, Ideal.ieee]
  rw [product_eq, Ideal.matmul_transposedRhs_apply]
  have start : (constant (F := Ideal) S8192x256 .f32 0x00000000#32 (ix2 a b) : EReal) = 0 := zero
  rw [start, zero_add, ← Grouped.sum_kept (fun q => x (ix2 a q)) (fun q => w (ix2 b q)) b]
  refine Finset.sum_congr rfl fun q _ => ?_
  rw [Mask.select_mask]
  have rest : (broadcast S256x256 (Scalar.ofBits (F := Ideal) .f32 0x00000000#32) (ix2 b q) : EReal) = 0 := zero
  rw [rest]

end Cert.KernelIdeal.Block

end
-- ==== Proof.KernelArray.lean ====
/- What the kernel's result array holds after the run. Grid point `j` reads columns `256 j` to `256 j + 255` of `x` and the diagonal
   256 by 256 tile of `w` at `(256 j, 256 j)`, and writes the same columns of the result; 256 being four whole groups, the group of a
   column inside the tile is its group in the array. So the sixteen blocks together are the layer's result of the two arguments. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid point `j` takes block `(0, j)` of `x`. -/
theorem x_index : ∀ t : Fin grid0.N, win0_0.index t = ![0, (grid0.coords t 0).val] := by decide +kernel

/-- Grid point `j` takes the diagonal tile `(j, j)` of `w`. -/
theorem w_index : ∀ t : Fin grid0.N, win0_1.index t = ![(grid0.coords t 0).val, (grid0.coords t 0).val] := by decide +kernel

/-- Grid point `j` writes block `(0, j)` of the result. -/
theorem y_index : ∀ t : Fin grid0.N, win0_2.index t = ![0, (grid0.coords t 0).val] := by decide +kernel

/-- An index of a matrix from its two coordinates' values. -/
theorem index_of_vals {p q : Nat} (y : (⟨2, ![p, q]⟩ : Shape).Idx) (r : Fin p) (n : Fin q) (h0 : (y 0).val = r.val)
    (h1 : (y 1).val = n.val) : y = ValueIdx.ix2 r n := by
  rw [ValueIdx.eq_ix2 y]
  exact congrArg₂ ValueIdx.ix2 (Fin.ext h0) (Fin.ext h1)

/-- Entry `(a, b)` of point `j`'s block of `x` is `x` at `(a, 256 j + b)`. -/
theorem x_at (t : Fin grid0.N) (a : Fin 8192) (b : Fin 256) (n : Fin 4096) (hn : n.val = (grid0.coords t 0).val * 256 + b.val) :
    (win0_0.blk t).view.emb (ValueIdx.ix2 a b) = ValueIdx.ix2 a n := by
  have e0 : ∀ y, ((win0_0.blk t).view.emb y 0).val = (y 0).val := fun y => by blk_simp [x_index]
  have e1 : ∀ y, ((win0_0.blk t).view.emb y 1).val = (grid0.coords t 0).val * 256 + (y 1).val := fun y => by blk_simp [x_index]
  exact index_of_vals _ a n (e0 _) ((e1 _).trans hn.symm)

/-- Entry `(a, b)` of point `j`'s tile of `w` is `w` at `(256 j + a, 256 j + b)`. -/
theorem w_at (t : Fin grid0.N) (a b : Fin 256) (r n : Fin 4096) (hr : r.val = (grid0.coords t 0).val * 256 + a.val)
    (hn : n.val = (grid0.coords t 0).val * 256 + b.val) :
    (win0_1.blk t).view.emb (ValueIdx.ix2 a b) = ValueIdx.ix2 r n := by
  have e0 : ∀ y, ((win0_1.blk t).view.emb y 0).val = (grid0.coords t 0).val * 256 + (y 0).val := fun y => by blk_simp [w_index]
  have e1 : ∀ y, ((win0_1.blk t).view.emb y 1).val = (grid0.coords t 0).val * 256 + (y 1).val := fun y => by blk_simp [w_index]
  exact index_of_vals _ r n ((e0 _).trans hr.symm) ((e1 _).trans hn.symm)

/-- Entry `(a, b)` of the block point `j` writes is the result at `(a, 256 j + b)`. -/
theorem y_at (t : Fin grid0.N) (a : Fin 8192) (b : Fin 256) (n : Fin 4096) (hn : n.val = (grid0.coords t 0).val * 256 + b.val) :
    (win0_2.blk t).view.emb (ValueIdx.ix2 a b) = ValueIdx.ix2 a n := by
  have e0 : ∀ y, ((win0_2.blk t).view.emb y 0).val = (y 0).val := fun y => by blk_simp [y_index]
  have e1 : ∀ y, ((win0_2.blk t).view.emb y 1).val = (grid0.coords t 0).val * 256 + (y 1).val := fun y => by blk_simp [y_index]
  exact index_of_vals _ a n (e0 _) ((e1 _).trans hn.symm)

/-- The result array after the run is the layer's result of the two argument arrays. -/
theorem array (c : Dev nD) : (dats m 0 c).arrAt 2 cfg0.N
    = Grouped.layer (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 8192) (b : Fin 256), y = ValueIdx.ix2 a b := ⟨y 0, y 1, ValueIdx.eq_ix2 y⟩
  refine (Block.product_apply (iblk m c 1 t) (iblk m c 0 t) a b).trans ?_
  have hj : (grid0.coords t 0).val < 16 := (grid0.coords t 0).isLt
  have col (q : Fin 256) : (grid0.coords t 0).val * 256 + q.val < 4096 := by omega
  rw [y_at t a b ⟨_, col b⟩ rfl, Grouped.layer_apply]
  refine Finset.sum_congr rfl fun i _ => ?_
  have inside : (Grouped.member ⟨_, col b⟩ i).val = (grid0.coords t 0).val * 256 + (Grouped.tileMember b i).val := by
    simp only [Grouped.member, Grouped.tileMember]
    omega
  blk_simp [iblk, V]
  rw [x_at t a _ _ inside, w_at t b _ ⟨_, col b⟩ _ rfl inside]

end Cert.KernelIdeal.Whole

end
-- ==== Proof.RefArray.lean ====
/- What the reference computes. It reshapes the weights to 64 by 64 blocks of 64 by 64, gathers the diagonal blocks, and contracts each
   with its group's 64 columns of `x`. Read at `(b, n)` this is the layer's sum over the group of `n`, the two factors of each term
   the other way round. -/
module

public import proofs.«01_k».proof.Proof.Gen.ReferenceIdeal.Run
public import proofs.«01_k».proof.Proof.GroupSum
public import Idealize.ShloMosaic.Lib.Pointwise

@[expose] public section

noncomputable section

namespace Cert.ReferenceIdeal.Whole

open Cert.ReferenceIdeal Cert.ReferenceIdeal.Gen Idealize.ShloMosaic
open scoped BigOperators

/-- The group numbers 0 to 63 as a column, a negative one raised by 64 (none is). -/
def groupNumbers : IVec S64x1 32 :=
  broadcastInDim S64x1 ![0] bcast_S64_S64x1_0
    (select (cmpi .slt (iotaInDim S64 32 0) (broadcastInDim S64 ![] bcast_S_S64 (constantI S_ 32 0#32)))
      (addi (iotaInDim S64 32 0) (broadcastInDim S64 ![] bcast_S_S64 (constantI S_ 32 64#32))) (iotaInDim S64 32 0))

/-- The gather's starts: the pair `(g, g)` for each group `g`, the diagonal block's place. -/
def starts : IVec S64x2 32 := concatenate S64x2 1 [⟨S64x1, groupNumbers⟩, ⟨S64x1, groupNumbers⟩] concatenates_S64x1_S64x1_S64x2_d1

/-- The weights' diagonal blocks, one 64 by 64 matrix per group. -/
def diagonal (w : FVec Ideal S4096x4096 .f32) : FVec Ideal S64x64x64 .f32 :=
  Host.gather gather_S64x64x64x64_S64x2_S64x64x64_12_02_n_n_02_1_164164 (shapeCast _ w shapeCasts_S4096x4096_S64x64x64x64) starts

/-- The reference's result as its run leaves it: each diagonal block contracted with its group's columns, axes put in order. -/
def result (x : FVec Ideal S8192x4096 .f32) (w : FVec Ideal S4096x4096 .f32) : FVec Ideal S8192x4096 .f32 :=
  shapeCast _ (transpose S8192x64x64 [2, 0, 1] (Host.dotGeneral dot_S64x64x64_S8192x64x64_S64x64x8192_2_2_1_0_0_1 none (diagonal w)
    (shapeCast _ x shapeCasts_S8192x4096_S8192x64x64)) transposes_S64x64x8192_S8192x64x64_2_0_1) shapeCasts_S8192x64x64_S8192x4096

/-- Both components of start `g` are `g`. -/
theorem starts_apply (j : S64x2.Idx) : starts j = BitVec.ofNat 32 (j 0).val := by
  have all : ∀ (g : Fin 64) (k : Fin 2), starts (ix2 g k) = BitVec.ofNat 32 g.val := by decide +kernel
  exact (congrArg starts (eq_ix2 j)).trans (all _ _)

/-- A group number as a word reads back as itself, and needs no clamping. -/
theorem clamped (g : Fin 64) : min (BitVec.ofNat 32 g.val).toInt.toNat (64 - 1) = g.val := by
  have all : ∀ g : Fin 64, min (BitVec.ofNat 32 g.val).toInt.toNat (64 - 1) = g.val := by decide +kernel
  exact all g

/-- Where the gather reads for group `g`: the first and the third axis at `g`, the others at the slice's own coordinates. -/
theorem gather_index (g o i : Fin 64) :
    gather_S64x64x64x64_S64x2_S64x64x64_12_02_n_n_02_1_164164.operandIdx (ix3 g o i) starts = ix4 g o g i := by
  funext a
  apply Fin.ext
  show GatherDims.start _ _ starts a + GatherDims.batchCoord _ _ a + GatherDims.offCoord _ _ a = _
  rw [GatherDims.batchCoord_eq_zero _ _ _ List.not_mem_nil]
  unfold GatherDims.start
  simp only [starts_apply]
  match a with
  | ⟨0, _⟩ => exact clamped g
  | ⟨1, _⟩ => exact Nat.zero_add _
  | ⟨2, _⟩ => exact clamped g
  | ⟨3, _⟩ => exact Nat.zero_add _

/-- Entry `(g, o, i)` of the diagonal blocks is the weight at row `64 g + o`, column `64 g + i`. -/
theorem diagonal_apply (w : FVec Ideal S4096x4096 .f32) (g o i : Fin 64) :
    diagonal w (ix3 g o i) = w (ix2 (⟨g.val * 64 + o.val, by omega⟩ : Fin 4096) (⟨g.val * 64 + i.val, by omega⟩ : Fin 4096)) := by
  unfold diagonal Host.gather
  rw [gather_index]
  pointwise

/-- Entry `(b, n)` of the reference's result is the layer's. -/
theorem result_apply (x : FVec Ideal S8192x4096 .f32) (w : FVec Ideal S4096x4096 .f32) (b : Fin 8192) (n : Fin 4096) :
    result x w (ix2 b n) = Grouped.layer x w (ix2 b n) := by
  pointwise [result]
  show _ = ∑ i : Fin 64, x (ValueIdx.ix2 b (Grouped.member n i)) * w (ValueIdx.ix2 n (Grouped.member n i))
  refine Finset.sum_congr rfl fun i _ => ?_
  have col : (⟨n.val / 64 * 64 + i.val, by omega⟩ : Fin 4096) = Grouped.member n i := Fin.ext (by simp only [Grouped.member]; omega)
  have row : (⟨n.val / 64 * 64 + n.val % 64, by omega⟩ : Fin 4096) = n := Fin.ext (by simp only []; omega)
  rw [diagonal_apply, mul_comm]
  simp only [col, row, ix2_eq_valueIdx]

/-- The reference's result is the layer's. -/
theorem result_eq (x : FVec Ideal S8192x4096 .f32) (w : FVec Ideal S4096x4096 .f32) : result x w = Grouped.layer x w := by
  funext y
  rw [eq_ix2 y]
  exact result_apply x w (y 0) (y 1)

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.KernelArray
public import proofs.«01_k».proof.Proof.RefArray
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates from every launch with its arguments as they were; it has no semaphore whose counter could differ from
    zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Launched on equal arguments, kernel and reference both end with the layer's result of those arguments in their result arrays, the
    arguments unchanged. -/
theorem same_result : Cert.algebraic_KernelIdeal_ReferenceIdeal (hKernelIdeal := Cert.KernelIdeal.Gen.facts)
    (hReferenceIdeal := Cert.ReferenceIdeal.Gen.facts) := by
  intro m ρ m' ρ' _ same
  refine ⟨fun c => Cert.Grouped.layer (m (c.tc.loc Cert.KernelIdeal.main_arg0)) (m (c.tc.loc Cert.KernelIdeal.main_arg1)), ?_, ?_⟩
  · exact (θ_run Cert.KernelIdeal.defs _ _).mono (fun r h c => ⟨(h c).1.trans (Cert.KernelIdeal.Whole.array m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [(same c).1, (same c).2]
    exact Cert.ReferenceIdeal.Whole.result_eq _ _

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
